-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x2x64 : Shape := ⟨4, ![1, 8192, 2, 64]⟩
abbrev S1x8192x1024 : Shape := ⟨3, ![1, 8192, 1024]⟩
abbrev S1 : Shape := ⟨1, ![1]⟩
abbrev S8192x128 : Shape := ⟨2, ![8192, 128]⟩
abbrev S128x8192 : Shape := ⟨2, ![128, 8192]⟩
abbrev S8192x1024 : Shape := ⟨2, ![8192, 1024]⟩
abbrev S2x64x1024 : Shape := ⟨3, ![2, 64, 1024]⟩
abbrev S1x1024 : Shape := ⟨2, ![1, 1024]⟩
abbrev S2x1024x64 : Shape := ⟨3, ![2, 1024, 64]⟩
abbrev S1x2x1024x64 : Shape := ⟨4, ![1, 2, 1024, 64]⟩
abbrev S_ : Shape := ⟨0, ![]⟩
abbrev S2048x1024 : Shape := ⟨2, ![2048, 1024]⟩
abbrev S128x2048 : Shape := ⟨2, ![128, 2048]⟩
abbrev S136x1024 : Shape := ⟨2, ![136, 1024]⟩
abbrev S128x1 : Shape := ⟨2, ![128, 1]⟩
abbrev S8x2048 : Shape := ⟨2, ![8, 2048]⟩
abbrev S136x2048 : Shape := ⟨2, ![136, 2048]⟩
abbrev S128x1024 : Shape := ⟨2, ![128, 1024]⟩
abbrev S64x1024 : Shape := ⟨2, ![64, 1024]⟩
abbrev S1x64x1024 : Shape := ⟨3, ![1, 64, 1024]⟩
abbrev S64 : Shape := ⟨1, ![64]⟩
abbrev S64x1 : Shape := ⟨2, ![64, 1]⟩
abbrev S1x1x1 : Shape := ⟨3, ![1, 1, 1]⟩
abbrev S1024 : Shape := ⟨1, ![1024]⟩

abbrev nBuf : Space → Nat
  | .hbm => 13
  | .vmem => 8
  | .smem => 2
  | _ => 0

abbrev bufTy : (tb : Table) → Fin (tcTables nBuf tb) → BufTy
  | .hbm, ⟨0, _⟩ => ⟨S1x8192x2x64, .f32⟩
  | .hbm, ⟨1, _⟩ => ⟨S1x8192x1024, .f32⟩
  | .hbm, ⟨2, _⟩ => ⟨S1, .f32⟩
  | .hbm, ⟨3, _⟩ => ⟨S8192x128, .f32⟩
  | .hbm, ⟨4, _⟩ => ⟨S8192x128, .bf16⟩
  | .hbm, ⟨5, _⟩ => ⟨S128x8192, .bf16⟩
  | .hbm, ⟨6, _⟩ => ⟨S8192x1024, .f32⟩
  | .hbm, ⟨7, _⟩ => ⟨S2x64x1024, .f32⟩
  | .hbm, ⟨8, _⟩ => ⟨S1x1024, .f32⟩
  | .hbm, ⟨9, _⟩ => ⟨S1, .f32⟩
  | .hbm, ⟨10, _⟩ => ⟨S2x1024x64, .f32⟩
  | .hbm, ⟨11, _⟩ => ⟨S1x2x1024x64, .f32⟩
  | .hbm, ⟨12, _⟩ => ⟨S_, .f32⟩
  | .local _ .vmem, ⟨0, _⟩ => ⟨S2048x1024, .f32⟩
  | .local _ .vmem, ⟨1, _⟩ => ⟨S2048x1024, .f32⟩
  | .local _ .vmem, ⟨2, _⟩ => ⟨S128x2048, .bf16⟩
  | .local _ .vmem, ⟨3, _⟩ => ⟨S128x2048, .bf16⟩
  | .local _ .vmem, ⟨4, _⟩ => ⟨S2x64x1024, .f32⟩
  | .local _ .vmem, ⟨5, _⟩ => ⟨S1x1024, .f32⟩
  | .local _ .vmem, ⟨6, _⟩ => ⟨S136x1024, .f32⟩
  | .local _ .vmem, ⟨7, _⟩ => ⟨S128x1, .f32⟩
  | .local _ .smem, ⟨0, _⟩ => ⟨S1, .f32⟩
  | .local _ .smem, ⟨1, _⟩ => ⟨S1, .f32⟩
  | _, _ => ⟨S1x8192x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4_0 : Ref sig .tc := ⟨.hbm, 7, rfl⟩
abbrev main_v0_1 : Ref sig .tc := ⟨.hbm, 8, rfl⟩
abbrev main_call0_v4_2 : Ref sig .tc := ⟨.hbm, 9, rfl⟩
abbrev main_call0_v5 : Ref sig .tc := ⟨.hbm, 10, rfl⟩
abbrev main_v0_0 : Ref sig .tc := ⟨.hbm, 11, rfl⟩
abbrev main_v0_2 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc0_stg0_0 : Ref sig .tc := ⟨.smem, 0, rfl⟩
abbrev cc0_stg5_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v16 : BitVec 1 := Scalar.cmpi .eq arg0 c3_i32
  let v17 : BitVec 32 := Scalar.extui v16
  let c0_i32_9 : BitVec 32 := 0#32
  let v18 : BitVec 1 := Scalar.cmpi .ne v17 c0_i32_9
  v18

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S1x8192x2x64 : Shape := ⟨4, ![1, 8192, 2, 64]⟩
abbrev S1x8192x1024 : Shape := ⟨3, ![1, 8192, 1024]⟩
abbrev S1 : Shape := ⟨1, ![1]⟩
abbrev S_ : Shape := ⟨0, ![]⟩
abbrev S1x1024 : Shape := ⟨2, ![1, 1024]⟩
abbrev S1x8192x1x64 : Shape := ⟨4, ![1, 8192, 1, 64]⟩
abbrev S1x8192x64 : Shape := ⟨3, ![1, 8192, 64]⟩
abbrev S1x1024x64 : Shape := ⟨3, ![1, 1024, 64]⟩
abbrev S1x1x1024x64 : Shape := ⟨4, ![1, 1, 1024, 64]⟩
abbrev S1x2x1024x64 : Shape := ⟨4, ![1, 2, 1024, 64]⟩
abbrev S1x1x1024x1 : Shape := ⟨4, ![1, 1, 1024, 1]⟩
abbrev S1024x64 : Shape := ⟨2, ![1024, 64]⟩
abbrev S64 : Shape := ⟨1, ![64]⟩
abbrev S1x64 : Shape := ⟨2, ![1, 64]⟩
abbrev S1x1x2x64 : Shape := ⟨4, ![1, 1, 2, 64]⟩
abbrev S2x64 : Shape := ⟨2, ![2, 64]⟩
abbrev S1x1x64 : Shape := ⟨3, ![1, 1, 64]⟩

abbrev nBuf : Space → Nat
  | .hbm => 91
  | .vmem => 0
  | .smem => 0
  | _ => 0

abbrev bufTy : (tb : Table) → Fin (tcTables nBuf tb) → BufTy
  | .hbm, ⟨0, _⟩ => ⟨S1x8192x2x64, .f32⟩
  | .hbm, ⟨1, _⟩ => ⟨S1x8192x1024, .f32⟩
  | .hbm, ⟨2, _⟩ => ⟨S1, .f32⟩
  | .hbm, ⟨3, _⟩ => ⟨S_, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S1x1024, .i1⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S1x8192x1x64, .f32⟩
  | .hbm, ⟨12, _⟩ => ⟨S1x8192x64, .f32⟩
  | .hbm, ⟨13, _⟩ => ⟨S1x8192x1x64, .f32⟩
  | .hbm, ⟨14, _⟩ => ⟨S1x8192x64, .f32⟩
  | .hbm, ⟨15, _⟩ => ⟨S1x1024x64, .f32⟩
  | .hbm, ⟨16, _⟩ => ⟨S1x1024x64, .f32⟩
  | .hbm, ⟨17, _⟩ => ⟨S1x1x1024x64, .f32⟩
  | .hbm, ⟨18, _⟩ => ⟨S1x1x1024x64, .f32⟩
  | .hbm, ⟨19, _⟩ => ⟨S1x2x1024x64, .f32⟩
  | .hbm, ⟨20, _⟩ => ⟨S1x1x1024x1, .f32⟩
  | .hbm, ⟨21, _⟩ => ⟨S1x2x1024x64, .f32⟩
  | .hbm, ⟨22, _⟩ => ⟨S1x2x1024x64, .f32⟩
  | .hbm, ⟨23, _⟩ => ⟨S1x1x1024x64, .f32⟩
  | .hbm, ⟨24, _⟩ => ⟨S1024x64, .f32⟩
  | .hbm, ⟨25, _⟩ => ⟨S1x1x1024x64, .f32⟩
  | .hbm, ⟨26, _⟩ => ⟨S1024x64, .f32⟩
  | .hbm, ⟨27, _⟩ => ⟨S_, .f32⟩
  | .hbm, ⟨28, _⟩ => ⟨S64, .f32⟩
  | .hbm, ⟨29, _⟩ => ⟨S1x64, .f32⟩
  | .hbm, ⟨30, _⟩ => ⟨S_, .f32⟩
  | .hbm, ⟨31, _⟩ => ⟨S1x64, .f32⟩
  | .hbm, ⟨32, _⟩ => ⟨S1x64, .f32⟩
  | .hbm, ⟨33, _⟩ => ⟨S_, .f32⟩
  | .hbm, ⟨34, _⟩ => ⟨S64, .f32⟩
  | .hbm, ⟨35, _⟩ => ⟨S1x64, .f32⟩
  | .hbm, ⟨36, _⟩ => ⟨S_, .f32⟩
  | .hbm, ⟨37, _⟩ => ⟨S1x64, .f32⟩
  | .hbm, ⟨38, _⟩ => ⟨S1x64, .f32⟩
  | .hbm, ⟨39, _⟩ => ⟨S1024x64, .f32⟩
  | .hbm, ⟨40, _⟩ => ⟨S1024x64, .f32⟩
  | .hbm, ⟨41, _⟩ => ⟨S1024x64, .f32⟩
  | .hbm, ⟨42, _⟩ => ⟨S1024x64, .f32⟩
  | .hbm, ⟨43, _⟩ => ⟨S1024x64, .f32⟩
  | .hbm, ⟨44, _⟩ => ⟨S1024x64, .f32⟩
  | .hbm, ⟨45, _⟩ => ⟨S1024x64, .f32⟩
  | .hbm, ⟨46, _⟩ => ⟨S_, .f32⟩
  | .hbm, ⟨47, _⟩ => ⟨S64, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S1, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S1x1x2x64, .f32⟩
  | .hbm, ⟨71, _⟩ => ⟨S2x64, .f32⟩
  | .hbm, ⟨72, _⟩ => ⟨S1x64, .f32⟩
  | .hbm, ⟨73, _⟩ => ⟨S64, .f32⟩
  | .hbm, ⟨74, _⟩ => ⟨S1x1x1024x64, .f32⟩
  | .hbm, ⟨75, _⟩ => ⟨S1x1024x64, .f32⟩
  | .hbm, ⟨76, _⟩ => ⟨S1x1x64, .f32⟩
  | .hbm, ⟨77, _⟩ => ⟨S1x1024x64, .f32⟩
  | .hbm, ⟨78, _⟩ => ⟨S1x1024x64, .f32⟩
  | .hbm, ⟨79, _⟩ => ⟨S1x1024x64, .f32⟩
  | .hbm, ⟨80, _⟩ => ⟨S1x64, .f32⟩
  | .hbm, ⟨81, _⟩ => ⟨S64, .f32⟩
  | .hbm, ⟨82, _⟩ => ⟨S1x1x1024x64, .f32⟩
  | .hbm, ⟨83, _⟩ => ⟨S1x1024x64, .f32⟩
  | .hbm, ⟨84, _⟩ => ⟨S1x1x64, .f32⟩
  | .hbm, ⟨85, _⟩ => ⟨S1x1024x64, .f32⟩
  | .hbm, ⟨86, _⟩ => ⟨S1x1024x64, .f32⟩
  | .hbm, ⟨87, _⟩ => ⟨S1x1024x64, .f32⟩
  | .hbm, ⟨88, _⟩ => ⟨S1x1024x64, .f32⟩
  | .hbm, ⟨89, _⟩ => ⟨S_, .f32⟩
  | .hbm, ⟨90, _⟩ => ⟨S1x1024, .f32⟩
  | _, _ => ⟨S1x8192x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_cst_7 : Ref sig .tc := ⟨.hbm, 48, rfl⟩
abbrev main_v37 : Ref sig .tc := ⟨.hbm, 49, rfl⟩
abbrev main_v38 : Ref sig .tc := ⟨.hbm, 50, rfl⟩
abbrev main_cst_8 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_10 : Ref sig .tc := ⟨.hbm, 57, rfl⟩
abbrev main_v43 : Ref sig .tc := ⟨.hbm, 58, rfl⟩
abbrev main_cst_11 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_12 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_13 : Ref sig .tc := ⟨.hbm, 89, rfl⟩
abbrev main_v72 : Ref sig .tc := ⟨.hbm, 90, rfl⟩

abbrev nD : Nat := 1
abbrev τ : Topo := Topo.v7x

variable {F : FTy → Type} [FloatOps F]
-- ==== Proof.Proto.Points.lean ====
/- What one grid point of the kernel leaves behind: the accumulator, the first token's column and,
   at the last point, the three output blocks, each as a named value of the point's input blocks. -/
module

public import proofs.«01_k».proof.Proof.Gen.KernelIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Proto

open Cert.KernelIdeal Cert.KernelIdeal.Gen
open Idealize.ShloMosaic Idealize.ShloMosaic.TcCoe Idealize.ShloMosaic.Tactic Idealize.SL.Sem

variable {F : FTy → Type} [FloatOps F] (m : (ℓ : Loc nD τ sig) → Buf (Elt F) ℓ)

/-- What the point before point `t` left in the accumulator. -/
abbrev accPrev (c : Dev nD) (t : Fin cfg0.N) : Vec F S136x1024 .f32 :=
  (outsAt0 m c (t.val - 1) (Nat.lt_of_le_of_lt (Nat.sub_le _ _) t.isLt)).2.2.2.1

/-- What the point before point `t` left in the first token's column. -/
abbrev colPrev (c : Dev nD) (t : Fin cfg0.N) : Vec F S128x1 .f32 :=
  (outsAt0 m c (t.val - 1) (Nat.lt_of_le_of_lt (Nat.sub_le _ _) t.isLt)).2.2.2.2

/-- The accumulator after the first point: the zero array plus the first block's product. -/
theorem acc_first (c : Dev nD) (t : Fin cfg0.N) (h0 : t.val % 4 = 0) (h1 : ¬t.val % 4 = 3) :
    (outsAt0 m c t.val t.isLt).2.2.2.1 = k0_pay4 (iblk m c 2 t) (iblk m c 1 t) (k0_pay2 (F := F)) := by
  rw [outsAt0_A m c t h0 h1]
  dsimp only
  frame_out

/-- The first token's column after the first point. -/
theorem col_first (c : Dev nD) (t : Fin cfg0.N) (h0 : t.val % 4 = 0) (h1 : ¬t.val % 4 = 3) :
    (outsAt0 m c t.val t.isLt).2.2.2.2 = k0_pay3 (iblk m c 2 t) := by
  rw [outsAt0_A m c t h0 h1]
  dsimp only
  frame_out

/-- The accumulator after any later point: what it held plus that point's product. -/
theorem acc_later (c : Dev nD) (t : Fin cfg0.N) (h0 : ¬t.val % 4 = 0) :
    (outsAt0 m c t.val t.isLt).2.2.2.1 = k0_pay4 (iblk m c 2 t) (iblk m c 1 t) (accPrev m c t) := by
  by_cases h1 : t.val % 4 = 3
  · rw [outsAt0_C m c t h0 h1]
    dsimp only
    frame_out
    rw [read_unread_whole]
  · rw [outsAt0_B m c t h0 h1]
    dsimp only
    frame_out
    rw [read_unread_whole]

/-- A later point leaves the first token's column as it was. -/
theorem col_later (c : Dev nD) (t : Fin cfg0.N) (h0 : ¬t.val % 4 = 0) :
    (outsAt0 m c t.val t.isLt).2.2.2.2 = colPrev m c t := by
  by_cases h1 : t.val % 4 = 3
  · rw [outsAt0_C m c t h0 h1]
    rfl
  · rw [outsAt0_B m c t h0 h1]
    rfl

/-- The squared distances the last point writes, of the accumulator it has just completed. -/
theorem dist_last (c : Dev nD) (t : Fin cfg0.N) (h0 : ¬t.val % 4 = 0) (h1 : t.val % 4 = 3) :
    (outsAt0 m c t.val t.isLt).2.1
      = k0_pay6 (k0_pay7 (outsAt0 m c t.val t.isLt).2.2.2.1) (colPrev m c t) := by
  rw [acc_later m c t h0, outsAt0_C m c t h0 h1]
  dsimp only
  frame_out
  rw [read_unread_whole, read_unread_whole]

/-- The regulariser the last point writes. -/
theorem lambda_last (c : Dev nD) (t : Fin cfg0.N) (h0 : ¬t.val % 4 = 0) (h1 : t.val % 4 = 3) :
    (outsAt0 m c t.val t.isLt).2.2.1
      = fun _ => k0_pay5 (k0_pay12 (outsAt0 m c t.val t.isLt).2.2.2.1) (k0_pay13 (iblk m c 0 t (ix1 0)))
          (k0_pay14 (iblk m c 0 t (ix1 0))) := by
  funext j
  rw [acc_later m c t h0, outsAt0_C m c t h0 h1]
  dsimp only
  frame_out
  rw [read_unread_whole]
  have one : ∀ x : S1.Idx, x = ix1 0 := fun x => by
    idx_vars x
    exact congrArg ix1 (Subsingleton.elim _ _)
  exact congrArg₂ (k0_pay5 _) (congrArg k0_pay13 (congrArg (iblk m c 0 t) (one _)))
    (congrArg k0_pay14 (congrArg (iblk m c 0 t) (one _)))

/-- The two planes of prototypes the last point writes: features on rows, prototypes on lanes. -/
theorem proto_last (c : Dev nD) (t : Fin cfg0.N) (h0 : ¬t.val % 4 = 0) (h1 : t.val % 4 = 3) (d : Fin 64) (k : Fin 1024) :
    (outsAt0 m c t.val t.isLt).1 (ix3 0 d k) = k0_pay10 (outsAt0 m c t.val t.isLt).2.2.2.1 (ix3 0 d k)
    ∧ (outsAt0 m c t.val t.isLt).1 (ix3 1 d k) = k0_pay11 (outsAt0 m c t.val t.isLt).2.2.2.1 (ix3 0 d k) := by
  rw [acc_later m c t h0, outsAt0_C m c t h0 h1]
  dsimp only
  frame_out
  rw [read_unread_whole]
  generalize k0_pay4 (iblk m c 2 t) (iblk m c 1 t) (accPrev m c t) = A
  refine ⟨?_, ?_⟩ <;> canon_tiles x h
  · exact absurd h0 (by change (0 : ℕ) ≠ 1 + _; omega)
  · have e1 : d.val = (x 1).val := h1
    have e2 : k.val = (x 2).val := h2
    blk_ext
  · have e1 : d.val = (x 1).val := h1
    have e2 : k.val = (x 2).val := h2
    blk_ext
  · exact absurd h0 (by change (1 : ℕ) ≠ _; omega)

end Cert.KernelIdeal.Proto
end
-- ==== Proof.Proto.Spec.lean ====
/- The mathematics of the problem on plain functions of the argument arrays: the total weight of a
   prototype, the weighted mean of the tokens' features, and the two scalars formed from it. -/
module

public import proofs.«01_k».proof.Proof.Gen.KernelIdeal.Frame
public import Idealize.ShloMosaic.Lib.Pointwise

@[expose] public section

set_option maxRecDepth 16384

noncomputable section

namespace Proto

open Idealize.ShloMosaic

/-- The complex features, real and imaginary planes: one batch, 8192 tokens, two planes, 64 features. -/
abbrev Feat : Type := (⟨4, ![1, 8192, 2, 64]⟩ : Shape).Idx → EReal
/-- The weights: one batch, 8192 tokens, 1024 prototypes. -/
abbrev Wt : Type := (⟨3, ![1, 8192, 1024]⟩ : Shape).Idx → EReal

/-- The total weight of prototype `k`. -/
def mass (P : Wt) (k : Fin 1024) : EReal := ∑ n : Fin 8192, P (ix3 0 n k)

/-- The divisor of prototype `k`: its total weight, or one where that is zero. -/
def den (P : Wt) (k : Fin 1024) : EReal := if mass P k = 0 then 1 else mass P k

/-- The weighted sum of feature `d` of plane `c` over the tokens, by prototype `k`'s weights. -/
def wsum (H : Feat) (P : Wt) (c : Fin 2) (d : Fin 64) (k : Fin 1024) : EReal :=
  ∑ n : Fin 8192, P (ix3 0 n k) * H (ix4 0 n c d)

/-- Prototype `k`: the weighted mean. -/
def mean (H : Feat) (P : Wt) (c : Fin 2) (d : Fin 64) (k : Fin 1024) : EReal :=
  Ideal.div (wsum H P c d k) (den P k)

/-- The squared distance of prototype `k` from the first token, both planes, summed over the features. -/
def dist (H : Feat) (P : Wt) (k : Fin 1024) : EReal :=
  ∑ d : Fin 64, ((H (ix4 0 0 0 d) - mean H P 0 d k) * (H (ix4 0 0 0 d) - mean H P 0 d k)
    + (H (ix4 0 0 1 d) - mean H P 1 d k) * (H (ix4 0 0 1 d) - mean H P 1 d k))

/-- The constant 1024, as the two programs spell it. -/
abbrev c1024 : EReal := Ideal.ofBits .f32 0x44800000#32
/-- The constant 64, as the reference spells it. -/
abbrev c64 : EReal := Ideal.ofBits .f32 0x42800000#32
/-- The constant 65536, as the kernel spells it. -/
abbrev c65536 : EReal := Ideal.ofBits .f32 0x47800000#32

/-- Feature `d` of plane `c`, averaged over the prototypes. -/
def centre (H : Feat) (P : Wt) (c : Fin 2) (d : Fin 64) : EReal :=
  Ideal.div (∑ k : Fin 1024, mean H P c d k) c1024

/-- The squared deviation of prototype `k` from that average at feature `d`, both planes. -/
def dev (H : Feat) (P : Wt) (d : Fin 64) (k : Fin 1024) : EReal :=
  (mean H P 0 d k - centre H P 0 d) * (mean H P 0 d k - centre H P 0 d)
    + (mean H P 1 d k - centre H P 1 d) * (mean H P 1 d k - centre H P 1 d)

/-- The variance of the prototypes, averaged over the features: a mean of means. -/
def variance (H : Feat) (P : Wt) : EReal :=
  Ideal.div (∑ d : Fin 64, Ideal.div (∑ k : Fin 1024, dev H P d k) c1024) c64

/-- The regulariser at log-scale `s` and variance `r`. -/
def regulariser (s r : EReal) : EReal :=
  FloatOps.absf (F := Ideal) (φ := .f32)
    (Ideal.ofBits .f32 0xC0000000#32 * Ideal.exp s * Ideal.log (Ideal.ofBits .f32 0x3C23D70A#32)
      + Ideal.exp s * Ideal.log (1 + Ideal.div r (Ideal.exp s)))

end Proto
end
-- ==== Proof.Proto.Blocks.lean ====
/- The blocks a grid point reads, as elements of the argument arrays. -/
module

public import proofs.«01_k».proof.Proof.Proto.Points
public import proofs.«01_k».proof.Proof.Proto.Spec
public import Idealize.ShloMosaic.Lib.Claim

@[expose] public section

set_option maxRecDepth 16384

noncomputable section

namespace Cert.KernelIdeal.Proto

open Cert.KernelIdeal Cert.KernelIdeal.Gen
open Idealize.ShloMosaic Idealize.ShloMosaic.TcCoe Idealize.ShloMosaic.Tactic Idealize.SL.Sem

variable (m : (ℓ : Loc nD τ sig) → Buf (Elt Ideal) ℓ) (c : Dev nD)

/-- Where the three input blocks of point `t` stand in their arrays. -/
theorem index_at : ∀ t : Fin cfg0.N, win0_0.index t = ![0] ∧ win0_1.index t = ![t.val, 0] ∧ win0_2.index t = ![0, t.val] := by
  decide +kernel

/-- The features the kernel is given. -/
abbrev feat : Proto.Feat := m ((c.tc : Thread nD τ).loc main_arg0)
/-- The weights the kernel is given. -/
abbrev wt : Proto.Wt := m ((c.tc : Thread nD τ).loc main_arg1)

/-- At the launch the weights stand as 8192 rows of 1024. -/
theorem entry_wt : V m c main_call0_v3 = shapeCast _ (wt m c) shapeCasts_S1x8192x1024_S8192x1024 := by
  unfold V V0 hostOps0
  simp only [List.flatten_cons, List.flatten_nil, List.append_nil]
  after_results
  rfl

/-- At the launch the features stand transposed: 128 rows of 8192. -/
theorem entry_feat : V m c main_call0_v2 = transpose S128x8192 [1, 0] (shapeCast S8192x128 (feat m c) shapeCasts_S1x8192x2x64_S8192x128) transposes_S8192x128_S128x8192_1_0 := by
  unfold V V0 hostOps0
  simp only [List.flatten_cons, List.flatten_nil, List.append_nil]
  after_results
  rfl

/-- Row `l` of point `t`'s block of weights is token `2048 t + l`'s. -/
theorem blk_wt (t : Fin cfg0.N) (l : Fin 2048) (k : Fin 1024) (n : Fin 8192) (hn : n.val = t.val * 2048 + l.val) :
    iblk m c 1 t (ix2 l k) = wt m c (ix3 0 n k) := by
  obtain ⟨e0, e1, e2⟩ := index_at t
  blk_simp [iblk]
  have e : (win0_1.blk t).view.emb (ix2 l k) = ix2 n k := by blk_ext [e1]
  rw [e]
  rw [entry_wt]
  pointwise

/-- Column `l` of point `t`'s block of features is token `2048 t + l`'s; row `64 p + d` is feature `d` of plane `p`. -/
theorem blk_feat (t : Fin cfg0.N) (l : Fin 2048) (r : Fin 128) (n : Fin 8192) (hn : n.val = t.val * 2048 + l.val)
    (p : Fin 2) (d : Fin 64) (hr : r.val = p.val * 64 + d.val) :
    iblk m c 2 t (ix2 r l) = feat m c (ix4 0 n p d) := by
  obtain ⟨e0, e1, e2⟩ := index_at t
  blk_simp [iblk]
  have e : (win0_2.blk t).view.emb (ix2 r l) = ix2 r n := by blk_ext [e2]
  rw [e]
  rw [entry_feat]
  pointwise
  blk_ext

/-- Every point reads the one log-scale. -/
theorem blk_scale (t : Fin cfg0.N) :
    iblk m c 0 t (ix1 0) = m ((c.tc : Thread nD τ).loc main_arg2) (ix1 0) := by
  obtain ⟨e0, e1, e2⟩ := index_at t
  blk_ext [iblk, V, e0]

end Cert.KernelIdeal.Proto
end
-- ==== Proof.Proto.Acc.lean ====
/- The accumulator after the last grid point: rows 0 to 127 hold the weighted sums of the features,
   row 128 the total weights; and the first token's column, which the last point still holds. -/
module

public import proofs.«01_k».proof.Proof.Proto.Blocks
public import Idealize.ShloMosaic.Lib.Pipeline.ValueKit.Held

@[expose] public section

set_option maxRecDepth 16384

noncomputable section

namespace Cert.KernelIdeal.Proto

open Cert.KernelIdeal Cert.KernelIdeal.Gen
open Idealize.ShloMosaic Idealize.ShloMosaic.TcCoe Idealize.ShloMosaic.Tactic Idealize.SL.Sem

variable (m : (ℓ : Loc nD τ sig) → Buf (Elt Ideal) ℓ) (c : Dev nD)

/-- One point's contribution to the accumulator. -/
def part (x : Vec Ideal S128x2048 .bf16) (y : Vec Ideal S2048x1024 .f32) (j : S136x1024.Idx) : EReal :=
  k0_pay4 (F := Ideal) x y (fun _ => (0 : EReal)) j

/-- Accumulating into `z` adds the point's own contribution to it. -/
theorem pay4_eq (x : Vec Ideal S128x2048 .bf16) (y : Vec Ideal S2048x1024 .f32) (z : Vec Ideal S136x1024 .f32) (j : S136x1024.Idx) :
    k0_pay4 (F := Ideal) x y z j = (z j : EReal) + part x y j := by
  unfold part
  idx_vars j
  pointwise [k0_pay4]

/-- A feature row of a contribution. -/
theorem part_feat (x : Vec Ideal S128x2048 .bf16) (y : Vec Ideal S2048x1024 .f32) (r : Fin 136) (r' : Fin 128) (hr : r.val = r'.val) (k : Fin 1024) :
    part x y (ix2 r k) = ∑ l : Fin 2048, (x (ix2 r' l) : EReal) * (y (ix2 l k) : EReal) := by
  unfold part
  pointwise [k0_pay4, k0_pay1]
  refine Finset.sum_congr rfl fun l _ => ?_
  rw [dif_pos (show r.val < 128 by omega)]
  have e : (⟨r.val, by omega⟩ : Fin 128) = r' := Fin.ext hr
  rw [e]

/-- The row of ones: the weights of the block, added up. -/
theorem part_mass (x : Vec Ideal S128x2048 .bf16) (y : Vec Ideal S2048x1024 .f32) (r : Fin 136) (hr : r.val = 128) (k : Fin 1024) :
    part x y (ix2 r k) = ∑ l : Fin 2048, (y (ix2 l k) : EReal) := by
  unfold part
  pointwise [k0_pay4, k0_pay1]
  refine Finset.sum_congr rfl fun l _ => ?_
  rw [dif_neg (show ¬r.val < 128 by omega), one_mul]

/-- The accumulator after the last point is the four contributions added up. -/
theorem acc_sum (j : S136x1024.Idx) :
    ((outsAt0 m c t0_3.val t0_3.isLt).2.2.2.1 j : EReal)
      = ∑ p : Fin cfg0.N, part (iblk m c 2 p) (iblk m c 1 p) j := by
  refine (Pipeline.eq_sum_fin_of_reset_step_apply_last (fun n h => (outsAt0 m c n h).2.2.2.1) 4 (fun _ => (0 : EReal)) (fun p j => part (iblk m c 2 p) (iblk m c 1 p) j)
    (fun t h j => ?_) (fun t h j => ?_) (le_of_eq N_0) t0_3 rfl j).trans (zero_add _)
  · have h3 : ¬t.val % 4 = 3 := by omega
    rw [acc_first m c t h h3, pay4_eq]
    refine congrArg (· + _) ?_
    idx_vars j
    pointwise [k0_pay2]
  · rw [acc_later m c t h, pay4_eq]

/-- The first token's column, as the last point finds it, is what the first point stored. -/
theorem col_held : colPrev m c t0_3 = k0_pay3 (iblk m c 2 t0_0) := by
  rw [← col_later m c t0_3 (by decide)]
  exact (Pipeline.eq_of_write_hold (fun n h => (outsAt0 m c n h).2.2.2.2) 4 (fun t => k0_pay3 (iblk m c 2 t))
    (fun t h => col_first m c t h (by omega)) (fun t h => col_later m c t h) t0_3).trans
    (congrArg (fun t => k0_pay3 (iblk m c 2 t)) (Fin.ext (by decide)))

/-- Row `64 p + d` of the finished accumulator is the weighted sum of feature `d` of plane `p`. -/
theorem acc_feat (r : Fin 136) (p : Fin 2) (d : Fin 64) (hr : r.val = p.val * 64 + d.val) (k : Fin 1024) :
    ((outsAt0 m c t0_3.val t0_3.isLt).2.2.2.1 (ix2 r k) : EReal) = Proto.wsum (feat m c) (wt m c) p d k := by
  rw [acc_sum]
  unfold Proto.wsum
  refine (Finset.sum_congr rfl fun t _ => part_feat (iblk m c 2 t) (iblk m c 1 t) r ⟨r.val, by omega⟩ rfl k).trans ?_
  refine Fin.sum_mul_add_congr fun t l hl => ?_
  exact (congrArg₂ (fun a b : EReal => a * b) (blk_feat m c t l ⟨r.val, by omega⟩ ⟨_, hl⟩ rfl p d hr)
    (blk_wt m c t l k ⟨_, hl⟩ rfl)).trans (mul_comm _ _)

/-- Row 128 of the finished accumulator is the total weights. -/
theorem acc_mass (r : Fin 136) (hr : r.val = 128) (k : Fin 1024) :
    ((outsAt0 m c t0_3.val t0_3.isLt).2.2.2.1 (ix2 r k) : EReal) = Proto.mass (wt m c) k := by
  rw [acc_sum]
  unfold Proto.mass
  refine (Finset.sum_congr rfl fun t _ => part_mass (iblk m c 2 t) (iblk m c 1 t) r hr k).trans ?_
  refine Fin.sum_mul_add_congr fun t l hl => ?_
  exact blk_wt m c t l k ⟨_, hl⟩ rfl

end Cert.KernelIdeal.Proto
end
-- ==== Proof.Proto.Algebra.lean ====
/- Facts about the extended reals that join the two programs: a square does not see the sign of a
   difference, and a mean of means of non-negative numbers is the mean. -/
module

public import proofs.«01_k».proof.Proof.Proto.Spec

@[expose] public section

noncomputable section

namespace Proto

open Idealize.ShloMosaic

/-- A square is never negative. -/
theorem sq_nonneg (x : EReal) : 0 ≤ x * x := by
  induction x with
  | bot => simp
  | top => simp
  | coe r => exact_mod_cast mul_self_nonneg r

/-- The square of a difference does not depend on its order. -/
theorem sub_sq_comm (x y : EReal) : (x - y) * (x - y) = (y - x) * (y - x) := by
  induction x with
  | bot => induction y with
    | bot => rfl
    | top => simp
    | coe r => simp
  | top => induction y with
    | bot => simp
    | top => rfl
    | coe r => simp
  | coe r => induction y with
    | bot => simp
    | top => simp
    | coe s =>
      rw [← EReal.coe_sub, ← EReal.coe_sub, ← EReal.coe_mul, ← EReal.coe_mul]
      exact congrArg Real.toEReal (by ring)

/-- The pattern denotes 1024. -/
theorem c1024_eq : c1024 = ((1024 : ℝ) : EReal) := by
  simp [c1024, Ideal.ofBits, Ideal.ieee]
  rw [← EReal.coe_mul]
  norm_num

/-- The pattern denotes 64. -/
theorem c64_eq : c64 = ((64 : ℝ) : EReal) := by
  simp [c64, Ideal.ofBits, Ideal.ieee]
  rw [← EReal.coe_mul]
  norm_num

/-- The pattern denotes 65536. -/
theorem c65536_eq : c65536 = ((65536 : ℝ) : EReal) := by
  simp [c65536, Ideal.ofBits, Ideal.ieee]
  rw [← EReal.coe_mul]
  norm_num

/-- Division by a real constant other than zero is multiplication by its inverse. -/
theorem div_coe (x : EReal) (r : ℝ) (hr : r ≠ 0) : Ideal.div x (r : EReal) = x * ((r⁻¹ : ℝ) : EReal) := by
  unfold Ideal.div
  rw [if_neg (by exact_mod_cast hr), EReal.coe_inv]

/-- A sum of non-negative terms times a factor, term by term. -/
theorem sum_mul_of_nonneg {n : ℕ} (f : Fin n → EReal) (hf : ∀ i, 0 ≤ f i) (c : EReal) :
    (∑ i, f i) * c = ∑ i, f i * c := by
  have key : ∀ s : Finset (Fin n), (∑ i ∈ s, f i) * c = ∑ i ∈ s, f i * c := fun s => by
    classical
    induction s using Finset.induction_on with
    | empty => simp
    | insert a s ha ih =>
      rw [Finset.sum_insert ha, Finset.sum_insert ha, EReal.right_distrib_of_nonneg (hf a) (Finset.sum_nonneg fun i _ => hf i), ih]
  exact key _

/-- The mean over 64 features of the mean over 1024 prototypes is the sum over both divided by 65536, of non-negative terms. -/
theorem mean_of_means (f : Fin 64 → Fin 1024 → EReal) (hf : ∀ d k, 0 ≤ f d k) :
    Ideal.div (∑ d, ∑ k, f d k) c65536 = Ideal.div (∑ d, Ideal.div (∑ k, f d k) c1024) c64 := by
  rw [c65536_eq, c1024_eq, c64_eq]
  simp only [div_coe _ _ (show (65536 : ℝ) ≠ 0 by norm_num), div_coe _ _ (show (1024 : ℝ) ≠ 0 by norm_num),
    div_coe _ _ (show (64 : ℝ) ≠ 0 by norm_num)]
  rw [← sum_mul_of_nonneg _ (fun d => Finset.sum_nonneg fun k _ => hf d k), mul_assoc, ← EReal.coe_mul]
  norm_num

/-- A squared deviation is never negative. -/
theorem dev_nonneg (H : Feat) (P : Wt) (d : Fin 64) (k : Fin 1024) : 0 ≤ dev H P d k :=
  add_nonneg (sq_nonneg _) (sq_nonneg _)

/-- The variance with one division. -/
theorem variance_eq (H : Feat) (P : Wt) :
    Ideal.div (∑ d : Fin 64, ∑ k : Fin 1024, dev H P d k) c65536 = variance H P :=
  mean_of_means _ fun d k => dev_nonneg H P d k

end Proto
end
-- ==== Proof.Proto.Final.lean ====
/- What the last grid point writes, read off the finished accumulator: the prototypes, the squared
   distances of the first token from them, and the regulariser. -/
module

public import proofs.«01_k».proof.Proof.Proto.Acc
public import proofs.«01_k».proof.Proof.Proto.Algebra

@[expose] public section

set_option maxRecDepth 16384

noncomputable section

namespace Cert.KernelIdeal.Proto

open Cert.KernelIdeal Cert.KernelIdeal.Gen
open Idealize.ShloMosaic Idealize.ShloMosaic.TcCoe Idealize.ShloMosaic.Tactic Idealize.SL.Sem

section Payloads

variable (H : Proto.Feat) (P : Proto.Wt) (A : Vec Ideal S136x1024 .f32)

/-- An accumulator that holds the weighted sums and, in row 128, the total weights. -/
structure Holds : Prop where
  feat : ∀ (r : Fin 136) (p : Fin 2) (d : Fin 64), r.val = p.val * 64 + d.val → ∀ k : Fin 1024,
    (A (ix2 r k) : EReal) = Proto.wsum H P p d k
  mass : ∀ k : Fin 1024, (A (ix2 128 k) : EReal) = Proto.mass P k

variable {H P A}

/-- The quotient array: row `64 p + d` is feature `d` of plane `p` of the prototypes. -/
theorem pay7_apply (hA : Holds H P A) (r : Fin 128) (p : Fin 2) (d : Fin 64) (hr : r.val = p.val * 64 + d.val) (k : Fin 1024) :
    (k0_pay7 A (ix2 r k) : EReal) = Proto.mean H P p d k := by
  unfold Proto.mean Proto.den
  pointwise [k0_pay7]
  rw [hA.mass k]
  exact congrArg (Ideal.div · _) (hA.feat _ p d hr k)

/-- The real plane of prototypes. -/
theorem pay8_apply (hA : Holds H P A) (d : Fin 64) (k : Fin 1024) :
    (k0_pay8 A (ix2 d k) : EReal) = Proto.mean H P 0 d k := by
  pointwise [k0_pay8]
  exact pay7_apply hA _ 0 d (by simp) k

/-- The imaginary plane of prototypes. -/
theorem pay9_apply (hA : Holds H P A) (d : Fin 64) (k : Fin 1024) :
    (k0_pay9 A (ix2 d k) : EReal) = Proto.mean H P 1 d k := by
  pointwise [k0_pay9]
  exact pay7_apply hA _ 1 d (by simp) k

/-- The real plane as it is stored. -/
theorem pay10_apply (hA : Holds H P A) (d : Fin 64) (k : Fin 1024) :
    (k0_pay10 A (ix3 0 d k) : EReal) = Proto.mean H P 0 d k := by
  pointwise [k0_pay10]
  exact pay8_apply hA d k

/-- The imaginary plane as it is stored. -/
theorem pay11_apply (hA : Holds H P A) (d : Fin 64) (k : Fin 1024) :
    (k0_pay11 A (ix3 0 d k) : EReal) = Proto.mean H P 1 d k := by
  pointwise [k0_pay11]
  exact pay9_apply hA d k

/-- The squared distances, as a sum over the 128 rows. -/
theorem pay6_apply (X : FVec Ideal S128x1024 .f32) (e : Vec Ideal S128x1 .f32) (k : Fin 1024) :
    (k0_pay6 X e (ix2 0 k) : EReal)
      = ∑ r : Fin 128, (X (ix2 r k) - (e (ix2 r 0) : EReal)) * (X (ix2 r k) - (e (ix2 r 0) : EReal)) := by
  pointwise [k0_pay6]

/-- The variance as the kernel forms it: one sum over features and prototypes, divided once. -/
theorem pay12_apply (hA : Holds H P A) :
    (k0_pay12 A : EReal) = Ideal.div (∑ d : Fin 64, ∑ k : Fin 1024, Proto.dev H P d k) Proto.c65536 := by
  unfold Proto.dev Proto.centre
  pointwise [k0_pay12, pay8_apply hA, pay9_apply hA]

/-- The regulariser as the kernel forms it on scalars. -/
theorem pay5_apply (r s : EReal) :
    (k0_pay5 (F := Ideal) r (k0_pay13 (F := Ideal) s) (k0_pay14 (F := Ideal) s) : EReal) = Proto.regulariser s r := by
  unfold Proto.regulariser
  pointwise [k0_pay5, k0_pay13, k0_pay14]
  rfl

end Payloads

variable (m : (ℓ : Loc nD τ sig) → Buf (Elt Ideal) ℓ) (c : Dev nD)

/-- The finished accumulator holds the weighted sums and the total weights of the arguments. -/
theorem holds_last : Holds (feat m c) (wt m c) (outsAt0 m c t0_3.val t0_3.isLt).2.2.2.1 :=
  ⟨fun r p d hr k => acc_feat m c r p d hr k, fun k => acc_mass m c 128 rfl k⟩

/-- The first token's column holds that token's features. -/
theorem col_apply (r : Fin 128) (p : Fin 2) (d : Fin 64) (hr : r.val = p.val * 64 + d.val) :
    (colPrev m c t0_3 (ix2 r 0) : EReal) = feat m c (ix4 0 0 p d) := by
  rw [col_held]
  pointwise [k0_pay3, k0_pay1]
  exact blk_feat m c t0_0 0 r 0 rfl p d hr

/-- The prototypes the region leaves: plane, feature, prototype. -/
theorem proto_final (p : Fin 2) (d : Fin 64) (k : Fin 1024) :
    ((outsAt0 m c t0_3.val t0_3.isLt).1 (ix3 p d k) : EReal) = Proto.mean (feat m c) (wt m c) p d k := by
  obtain ⟨e0, e1⟩ := proto_last m c t0_3 (by decide) (by decide) d k
  obtain rfl | rfl : p = 0 ∨ p = 1 := by omega
  · exact e0.trans (pay10_apply (holds_last m c) d k)
  · exact e1.trans (pay11_apply (holds_last m c) d k)

/-- The squared distances the region leaves. -/
theorem dist_final (k : Fin 1024) :
    ((outsAt0 m c t0_3.val t0_3.isLt).2.1 (ix2 0 k) : EReal) = Proto.dist (feat m c) (wt m c) k := by
  rw [dist_last m c t0_3 (by decide) (by decide), pay6_apply, Fin.sum_univ_two_halves 64 64 rfl]
  unfold Proto.dist
  rw [← Finset.sum_add_distrib]
  refine Finset.sum_congr rfl fun d _ => ?_
  have a0 := pay7_apply (holds_last m c) ⟨d.val, by omega⟩ 0 d (by simp) k
  have a1 := pay7_apply (holds_last m c) ⟨64 + d.val, by omega⟩ 1 d (by simp) k
  have b0 := col_apply m c ⟨d.val, by omega⟩ 0 d (by simp)
  have b1 := col_apply m c ⟨64 + d.val, by omega⟩ 1 d (by simp)
  rw [a0, a1, b0, b1, Proto.sub_sq_comm, Proto.sub_sq_comm (Proto.mean _ _ 1 d k)]

/-- The regulariser the region leaves. -/
theorem lambda_final :
    (outsAt0 m c t0_3.val t0_3.isLt).2.2.1 = fun _ =>
      Proto.regulariser (m ((c.tc : Thread nD τ).loc main_arg2) (ix1 0)) (Proto.variance (feat m c) (wt m c)) := by
  rw [lambda_last m c t0_3 (by decide) (by decide)]
  funext _
  rw [pay5_apply, pay12_apply (holds_last m c), Proto.variance_eq, blk_scale]

end Cert.KernelIdeal.Proto
end
-- ==== Proof.Proto.KernelRun.lean ====
/- The kernel's whole run: what the region leaves in its three output arrays, what the host line after
   it makes of them, and the arguments unchanged. -/
module

public import proofs.«01_k».proof.Proof.Proto.Final
public import Idealize.ShloMosaic.Lib.StableHlo.Run

@[expose] public section

set_option maxRecDepth 16384

noncomputable section

namespace Cert.KernelIdeal.Proto

open Cert.KernelIdeal Cert.KernelIdeal.Gen
open Idealize.ShloMosaic Idealize.ShloMosaic.TcCoe Idealize.ShloMosaic.Tactic Idealize.SL.Sem

variable (m : (ℓ : Loc nD τ sig) → Buf (Elt Ideal) ℓ) (c : Dev nD)

/-- The array of prototypes the region leaves: plane, feature, prototype. -/
def protoArr : Vec Ideal S2x64x1024 .f32 := fun j => Proto.mean (feat m c) (wt m c) (j 0) (j 1) (j 2)

/-- The array of squared distances. -/
def distArr : Vec Ideal S1x1024 .f32 := fun j => Proto.dist (feat m c) (wt m c) (j 1)

/-- The one regulariser. -/
def lam : EReal :=
  Proto.regulariser (m ((c.tc : Thread nD τ).loc main_arg2) (ix1 0)) (Proto.variance (feat m c) (wt m c))

/-- After the region the prototypes' array holds the weighted means. -/
theorem arr_proto : (dats m 0 c).arrAt 3 cfg0.N = protoArr m c := by
  refine (dats m 0 c).arrAt_eq_of_after_last 3 t0_3 (by decide +kernel) _ fun j => ?_
  blk_simp
  rw [after0_3]
  idx_vars j
  exact proto_final m c _ _ _

/-- The last point's distances, at any index of their block. -/
theorem dist_at (j : S1x1024.Idx) : (outsAt0 m c t0_3.val t0_3.isLt).2.1 j = distArr m c j := by
  have e : j = ix2 (0 : Fin 1) (j 1) := by
    funext a
    fin_cases a
    · exact Subsingleton.elim (α := Fin 1) _ _
    · rfl
  rw [e]
  exact dist_final m c (j 1)

/-- After the region the distances' array holds the squared distances. -/
theorem arr_dist : (dats m 0 c).arrAt 4 cfg0.N = distArr m c := by
  refine (dats m 0 c).arrAt_eq_of_after_last 4 t0_3 (by decide +kernel) _ fun j => ?_
  blk_simp
  rw [after0_4]
  exact dist_at m c j

/-- After the region the last array holds the regulariser. -/
theorem arr_lam : (dats m 0 c).arrAt 5 cfg0.N = (fun _ => lam m c : Vec Ideal S1 .f32) := by
  refine (dats m 0 c).arrAt_eq_of_after_last 5 t0_3 (by decide +kernel) _ fun j => ?_
  blk_simp
  rw [after0_5, lambda_final]
  rfl

/-- The six arrays of the region are six different buffers. -/
theorem arrays_distinct : Function.Injective (Pipeline.arrRef spec0) := by decide

/-- The first result: the host transposes each plane and puts the batch axis in front. -/
theorem tail_proto : Pipeline.afterTail₀ cfgs (dats m) 0 (V0 m) [hostOps1] c main_v0_0
    = (fun j => Proto.mean (feat m c) (wt m c) (j 1) (j 3) (j 2) : Vec Ideal S1x2x1024x64 .f32) := by
  have e : Pipeline.withArrays (cfgs 0).spec c (V0 m c) (fun w => (dats m 0 c).arrAt w (cfgs 0).N)
      (Proc.tc.devRef main_call0_v4_0) = protoArr m c :=
    (Pipeline.withArrays_arr spec0 arrays_distinct c (V0 m c) _ 3).trans (arr_proto m c)
  have h : Pipeline.afterTail₀ cfgs (dats m) 0 (V0 m) [hostOps1] c main_v0_0
      = broadcastInDim S1x2x1024x64 ![1, 2, 3] bcast_S2x1024x64_S1x2x1024x64_1_2_3
          (transpose S2x1024x64 [0, 2, 1] (protoArr m c) transposes_S2x64x1024_S2x1024x64_0_2_1) := by
    rw [← e]
    unfold Pipeline.afterTail₀ hostOps1
    simp only [List.flatten_cons, List.flatten_nil, List.append_nil]
    after_results
    rfl
  rw [h]
  funext j
  idx_vars j
  pointwise [protoArr]

/-- The third result: the host drops the regulariser's axis. -/
theorem tail_lam : Pipeline.afterTail₀ cfgs (dats m) 0 (V0 m) [hostOps1] c main_v0_2
    = (fun _ => lam m c : Vec Ideal S_ .f32) := by
  have e : Pipeline.withArrays (cfgs 0).spec c (V0 m c) (fun w => (dats m 0 c).arrAt w (cfgs 0).N)
      (Proc.tc.devRef main_call0_v4_2) = (fun _ => lam m c : Vec Ideal S1 .f32) :=
    (Pipeline.withArrays_arr spec0 arrays_distinct c (V0 m c) _ 5).trans (arr_lam m c)
  have h : Pipeline.afterTail₀ cfgs (dats m) 0 (V0 m) [hostOps1] c main_v0_2
      = shapeCast S_ (fun _ => lam m c : Vec Ideal S1 .f32) shapeCasts_S1_S_ := by
    rw [← e]
    unfold Pipeline.afterTail₀ hostOps1
    simp only [List.flatten_cons, List.flatten_nil, List.append_nil]
    after_results
    rfl
  rw [h]
  rfl

/-- The kernel, run whole: every prototype is the weighted mean, every distance the squared distance, the
    last result the regulariser, and the arguments stand as they were. -/
theorem run (ρ : Dev nD → PrngReg) :
    θ_run defs (onTc (τ := τ) (main (F := Ideal))) ⟨m, fun _ => 0, ρ⟩ fun r => ∀ c : Dev nD,
      r.2.mem ((c.tc : Thread nD τ).loc main_v0_0)
          = (fun j => Proto.mean (feat m c) (wt m c) (j 1) (j 3) (j 2) : Vec Ideal S1x2x1024x64 .f32)
      ∧ r.2.mem ((c.tc : Thread nD τ).loc main_v0_1) = distArr m c
      ∧ r.2.mem ((c.tc : Thread nD τ).loc main_v0_2) = (fun _ => lam m c : Vec Ideal S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v0_0 (Pipeline.mem_restRefs_of main_v0_0 (by decide) (by decide))).trans (tail_proto m c),
      ((h c).1 4).trans (arr_dist m c),
      ((h c).2 main_v0_2 (Pipeline.mem_restRefs_of main_v0_2 (by decide) (by decide))).trans (tail_lam m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 0).trans (((dats m 0 c).arrAt_in 0 rfl _).trans (V_main_arg2 m c))⟩) (run_main m ρ)

end Cert.KernelIdeal.Proto
end
-- ==== Proof.Proto.RefProto.lean ====
/- What the reference computes: its prototypes at an index. -/
module

public import proofs.«01_k».proof.Proof.Gen.ReferenceIdeal.Run
public import proofs.«01_k».proof.Proof.Proto.Spec

@[expose] public section

set_option maxRecDepth 16384

noncomputable section

namespace Cert.ReferenceIdeal.Proto

open Cert.ReferenceIdeal Cert.ReferenceIdeal.Gen Cert.ReferenceIdeal.Value
open Idealize.ShloMosaic Idealize.ShloMosaic.TcCoe Idealize.ShloMosaic.Tactic Idealize.SL.Sem

/-- The total weights, as the reference forms them: a sum over the tokens. -/
def massTerm (P : FVec Ideal S1x8192x1024 .f32) : FVec Ideal S1x1024 .f32 :=
  Host.reduceAdd P (constant S_ .f32 0x00000000#32) reducesTo_S1x8192x1024_S1x1024_d1 h_S_

/-- The divisors: the total weight, or one where that is zero. -/
def denTerm (P : FVec Ideal S1x8192x1024 .f32) : FVec Ideal S1x1024 .f32 :=
  select (cmpf .oeq (massTerm P) (broadcastInDim S1x1024 ![] bcast_S_S1x1024 (constant S_ .f32 0x00000000#32)))
    (broadcastInDim S1x1024 ![] bcast_S_S1x1024 (constant S_ .f32 0x3F800000#32)) (massTerm P)

/-- The real plane of the features. -/
def reTerm (H : FVec Ideal S1x8192x2x64 .f32) : FVec Ideal S1x8192x64 .f32 :=
  shapeCast _ (extractStridedSlice S1x8192x1x64 ![0, 0, 0, 0] H slices_S1x8192x2x64_S1x8192x1x64_0_0_0_0) shapeCasts_S1x8192x1x64_S1x8192x64

/-- The imaginary plane of the features. -/
def imTerm (H : FVec Ideal S1x8192x2x64 .f32) : FVec Ideal S1x8192x64 .f32 :=
  shapeCast _ (extractStridedSlice S1x8192x1x64 ![0, 0, 1, 0] H slices_S1x8192x2x64_S1x8192x1x64_0_0_1_0) shapeCasts_S1x8192x1x64_S1x8192x64

/-- The weighted sums of one plane, as a contraction over the tokens. -/
def sumTerm (P : FVec Ideal S1x8192x1024 .f32) (X : FVec Ideal S1x8192x64 .f32) : FVec Ideal S1x1x1024x64 .f32 :=
  broadcastInDim S1x1x1024x64 ![0, 2, 3] bcast_S1x1024x64_S1x1x1024x64_0_2_3 (Host.dotGeneral (F := Ideal) (φ₁ := .f32) (φ₂ := .f32) dot_S1x8192x1024_S1x8192x64_S1x1024x64_1_1_2_2_0_0 none P X)

/-- The prototypes: the two planes of weighted sums over the divisors. -/
def protoTerm (H : FVec Ideal S1x8192x2x64 .f32) (P : FVec Ideal S1x8192x1024 .f32) : FVec Ideal S1x2x1024x64 .f32 :=
  Host.divf (concatenate S1x2x1024x64 1 [⟨S1x1x1024x64, sumTerm P (reTerm H)⟩, ⟨S1x1x1024x64, sumTerm P (imTerm H)⟩] concatenates_S1x1x1024x64_S1x1x1024x64_S1x2x1024x64_d1)
    (broadcastInDim S1x2x1024x64 ![0, 1, 2, 3] bcast_S1x1x1024x1_S1x2x1024x64_0_1_2_3 (broadcastInDim S1x1x1024x1 ![0, 2] bcast_S1x1024_S1x1x1024x1_0_2 (denTerm P)))

/-- The reference's prototypes at an index: the weighted means. -/
theorem protoTerm_apply (H : FVec Ideal S1x8192x2x64 .f32) (P : FVec Ideal S1x8192x1024 .f32) (p : Fin 2) (k : Fin 1024) (d : Fin 64) :
    protoTerm H P (ix4 0 p k d) = Proto.mean H P p d k := by
  unfold Proto.mean Proto.wsum Proto.den Proto.mass
  pointwise [protoTerm, sumTerm, reTerm, imTerm, denTerm, massTerm]
  refine congrArg (Ideal.div · _) ?_
  obtain rfl | rfl : p = 0 ∨ p = 1 := by omega
  · rfl
  · rfl

end Cert.ReferenceIdeal.Proto
end
-- ==== Proof.Proto.RefRest.lean ====
/- What the reference computes: its squared distances and its regulariser at an index. -/
module

public import proofs.«01_k».proof.Proof.Gen.ReferenceIdeal.Run
public import proofs.«01_k».proof.Proof.Proto.RefProto

@[expose] public section

set_option maxRecDepth 16384

noncomputable section

namespace Cert.ReferenceIdeal.Proto

open Cert.ReferenceIdeal Cert.ReferenceIdeal.Gen Cert.ReferenceIdeal.Value
open Idealize.ShloMosaic Idealize.ShloMosaic.TcCoe Idealize.ShloMosaic.Tactic Idealize.SL.Sem

/-- The first token's features of both planes. -/
def headTerm (H : FVec Ideal S1x8192x2x64 .f32) : FVec Ideal S2x64 .f32 :=
  shapeCast _ (extractStridedSlice S1x1x2x64 ![0, 0, 0, 0] H slices_S1x8192x2x64_S1x1x2x64_0_0_0_0) shapeCasts_S1x1x2x64_S2x64

/-- The first token's features of one plane, one copy per prototype. -/
def spreadTerm (x : FVec Ideal S1x64 .f32) : FVec Ideal S1x1024x64 .f32 :=
  broadcastInDim S1x1024x64 ![0, 1, 2] bcast_S1x1x64_S1x1024x64_0_1_2 (broadcastInDim S1x1x64 ![2] bcast_S64_S1x1x64_2 (shapeCast _ x shapeCasts_S1x64_S64))

/-- The first token minus the prototypes, real plane. -/
def offTerm0 (H : FVec Ideal S1x8192x2x64 .f32) (Q : FVec Ideal S1x2x1024x64 .f32) : FVec Ideal S1x1024x64 .f32 :=
  subf (spreadTerm (extractStridedSlice S1x64 ![0, 0] (headTerm H) slices_S2x64_S1x64_0_0))
    (shapeCast _ (extractStridedSlice S1x1x1024x64 ![0, 0, 0, 0] Q slices_S1x2x1024x64_S1x1x1024x64_0_0_0_0) shapeCasts_S1x1x1024x64_S1x1024x64)

/-- The first token minus the prototypes, imaginary plane. -/
def offTerm1 (H : FVec Ideal S1x8192x2x64 .f32) (Q : FVec Ideal S1x2x1024x64 .f32) : FVec Ideal S1x1024x64 .f32 :=
  subf (spreadTerm (extractStridedSlice S1x64 ![1, 0] (headTerm H) slices_S2x64_S1x64_1_0))
    (shapeCast _ (extractStridedSlice S1x1x1024x64 ![0, 1, 0, 0] Q slices_S1x2x1024x64_S1x1x1024x64_0_1_0_0) shapeCasts_S1x1x1024x64_S1x1024x64)

/-- The squared distances as a vector expression of the features and the prototypes. -/
def distTerm (H : FVec Ideal S1x8192x2x64 .f32) (Q : FVec Ideal S1x2x1024x64 .f32) : FVec Ideal S1x1024 .f32 :=
  Host.reduceAdd (addf (mulf (offTerm0 H Q) (offTerm0 H Q)) (mulf (offTerm1 H Q) (offTerm1 H Q)))
    (constant S_ .f32 0x00000000#32) reducesTo_S1x1024x64_S1x1024_d2 h_S_

/-- The reference's squared distances at an index. -/
theorem distTerm_apply (H : FVec Ideal S1x8192x2x64 .f32) (P : FVec Ideal S1x8192x1024 .f32) (k : Fin 1024) :
    distTerm H (protoTerm H P) (ix2 0 k) = Proto.dist H P k := by
  unfold Proto.dist
  pointwise [distTerm, offTerm0, offTerm1, spreadTerm, headTerm, protoTerm_apply]

/-- The prototypes of the real plane. -/
def planeTerm0 (Q : FVec Ideal S1x2x1024x64 .f32) : FVec Ideal S1024x64 .f32 :=
  shapeCast _ (extractStridedSlice S1x1x1024x64 ![0, 0, 0, 0] Q slices_S1x2x1024x64_S1x1x1024x64_0_0_0_0) shapeCasts_S1x1x1024x64_S1024x64

/-- The prototypes of the imaginary plane. -/
def planeTerm1 (Q : FVec Ideal S1x2x1024x64 .f32) : FVec Ideal S1024x64 .f32 :=
  shapeCast _ (extractStridedSlice S1x1x1024x64 ![0, 1, 0, 0] Q slices_S1x2x1024x64_S1x1x1024x64_0_1_0_0) shapeCasts_S1x1x1024x64_S1024x64

/-- A plane of prototypes minus its average over the prototypes. -/
def centredTerm (X : FVec Ideal S1024x64 .f32) : FVec Ideal S1024x64 .f32 :=
  subf X (broadcastInDim S1024x64 ![0, 1] bcast_S1x64_S1024x64_0_1 (Host.divf (broadcastInDim S1x64 ![1] bcast_S64_S1x64_1 (Host.reduceAdd X (constant S_ .f32 0x00000000#32) reducesTo_S1024x64_S64_d0 h_S_)) (broadcastInDim S1x64 ![] bcast_S_S1x64 (constant S_ .f32 0x44800000#32))))

/-- The squared deviations of two planes. -/
def devTerm (X Y : FVec Ideal S1024x64 .f32) : FVec Ideal S1024x64 .f32 :=
  addf (mulf (centredTerm X) (centredTerm X)) (mulf (centredTerm Y) (centredTerm Y))

/-- The mean over the features of the mean over the prototypes. -/
def varTerm (D : FVec Ideal S1024x64 .f32) : FVec Ideal S_ .f32 :=
  Host.divf (Host.reduceAdd (Host.divf (Host.reduceAdd D (constant S_ .f32 0x00000000#32) reducesTo_S1024x64_S64_d0 h_S_) (broadcastInDim S64 ![] bcast_S_S64 (constant S_ .f32 0x44800000#32))) (constant S_ .f32 0x00000000#32) reducesTo_S64_S_d0 h_S_) (constant S_ .f32 0x42800000#32)

/-- The scale: the exponential of the given logarithm. -/
def scaleTerm (s : FVec Ideal S1 .f32) : FVec Ideal S_ .f32 :=
  shapeCast _ (Host.exp s) shapeCasts_S1_S_

/-- The regulariser as a vector expression of the log-scale and the variance. -/
def regTerm (s : FVec Ideal S1 .f32) (r : FVec Ideal S_ .f32) : FVec Ideal S_ .f32 :=
  Host.absf (addf (mulf (mulf (constant S_ .f32 0xC0000000#32) (scaleTerm s)) (id (Host.log (constant S_ .f32 0x3C23D70A#32)))) (mulf (scaleTerm s) (Host.log (addf (constant S_ .f32 0x3F800000#32) (Host.divf r (scaleTerm s))))))

/-- The reference's variance of its prototypes. -/
theorem varTerm_apply (H : FVec Ideal S1x8192x2x64 .f32) (P : FVec Ideal S1x8192x1024 .f32) :
    varTerm (devTerm (planeTerm0 (protoTerm H P)) (planeTerm1 (protoTerm H P))) ix0 = Proto.variance H P := by
  unfold Proto.variance Proto.dev Proto.centre
  pointwise [varTerm, devTerm, centredTerm, planeTerm0, planeTerm1, protoTerm_apply]

/-- The reference's regulariser. -/
theorem regTerm_apply (s : FVec Ideal S1 .f32) (r : FVec Ideal S_ .f32) :
    regTerm s r ix0 = Proto.regulariser (s (ix1 0)) (r ix0) := by
  unfold Proto.regulariser
  pointwise [regTerm, scaleTerm]
  rfl

variable (m : (ℓ : Loc nD τ sig) → Buf (Elt Ideal) ℓ) (c : Dev nD)

/-- The second result of the reference is the squared distances of its prototypes. -/
theorem out1_eq : res_out1 m c = distTerm (m ((c.tc : Thread nD τ).loc main_arg0))
    (protoTerm (m ((c.tc : Thread nD τ).loc main_arg0)) (m ((c.tc : Thread nD τ).loc main_arg1))) := rfl

/-- The third result of the reference is the regulariser of its prototypes' variance. -/
theorem out2_eq : res_out2 m c = regTerm (m ((c.tc : Thread nD τ).loc main_arg2))
    (varTerm (devTerm
      (planeTerm0 (protoTerm (m ((c.tc : Thread nD τ).loc main_arg0)) (m ((c.tc : Thread nD τ).loc main_arg1))))
      (planeTerm1 (protoTerm (m ((c.tc : Thread nD τ).loc main_arg0)) (m ((c.tc : Thread nD τ).loc main_arg1)))))) := rfl

end Cert.ReferenceIdeal.Proto
end
-- ==== Proof.Proto.RefRun.lean ====
/- The reference's whole run: its three results at an index, and the arguments unchanged. -/
module

public import proofs.«01_k».proof.Proof.Proto.RefRest

@[expose] public section

set_option maxRecDepth 16384

noncomputable section

namespace Cert.ReferenceIdeal.Proto

open Cert.ReferenceIdeal Cert.ReferenceIdeal.Gen Cert.ReferenceIdeal.Value
open Idealize.ShloMosaic Idealize.ShloMosaic.TcCoe Idealize.ShloMosaic.Tactic Idealize.SL.Sem

/-- The reference's array of prototypes: the weighted means. -/
theorem protos_eq (H : FVec Ideal S1x8192x2x64 .f32) (P : FVec Ideal S1x8192x1024 .f32) :
    protoTerm H P = fun j => Proto.mean H P (j 1) (j 3) (j 2) := by
  funext j
  have e : j = ix4 (0 : Fin 1) (j 1) (j 2) (j 3) := by
    funext a
    fin_cases a
    · exact Subsingleton.elim (α := Fin 1) _ _
    · rfl
    · rfl
    · rfl
  rw [e]
  exact protoTerm_apply H P _ _ _

/-- The reference's array of squared distances. -/
theorem dists_eq (H : FVec Ideal S1x8192x2x64 .f32) (P : FVec Ideal S1x8192x1024 .f32) :
    distTerm H (protoTerm H P) = fun j => Proto.dist H P (j 1) := by
  funext j
  have e : j = ix2 (0 : Fin 1) (j 1) := by
    funext a
    fin_cases a
    · exact Subsingleton.elim (α := Fin 1) _ _
    · rfl
  rw [e]
  exact distTerm_apply H P (j 1)

/-- The reference's regulariser, a single value. -/
theorem reg_eq (H : FVec Ideal S1x8192x2x64 .f32) (P : FVec Ideal S1x8192x1024 .f32) (s : FVec Ideal S1 .f32) :
    regTerm s (varTerm (devTerm (planeTerm0 (protoTerm H P)) (planeTerm1 (protoTerm H P))))
      = fun _ => Proto.regulariser (s (ix1 0)) (Proto.variance H P) := by
  funext j
  have e : j = ix0 := funext fun a => a.elim0
  rw [e, regTerm_apply, varTerm_apply]

variable (m : (ℓ : Loc nD τ sig) → Buf (Elt Ideal) ℓ)

/-- The reference, run whole: every prototype is the weighted mean, every distance the squared distance, the
    last result the regulariser, and the arguments stand as they were. -/
theorem run_at (ρ : Dev nD → PrngReg) :
    θ_run defs (onTc (τ := τ) (main (F := Ideal))) ⟨m, fun _ => 0, ρ⟩ fun r => ∀ c : Dev nD,
      r.2.mem ((c.tc : Thread nD τ).loc main_v16)
          = (fun j => Proto.mean (m ((c.tc : Thread nD τ).loc main_arg0)) (m ((c.tc : Thread nD τ).loc main_arg1))
              (j 1) (j 3) (j 2) : FVec Ideal S1x2x1024x64 .f32)
      ∧ r.2.mem ((c.tc : Thread nD τ).loc main_v72)
          = (fun j => Proto.dist (m ((c.tc : Thread nD τ).loc main_arg0)) (m ((c.tc : Thread nD τ).loc main_arg1))
              (j 1) : FVec Ideal S1x1024 .f32)
      ∧ r.2.mem ((c.tc : Thread nD τ).loc main_v52)
          = (fun _ => Proto.regulariser (m ((c.tc : Thread nD τ).loc main_arg2) (ix1 0))
              (Proto.variance (m ((c.tc : Thread nD τ).loc main_arg0)) (m ((c.tc : Thread nD τ).loc main_arg1))) : FVec Ideal S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c).1.trans (protos_eq _ _),
      (h c).2.1.trans ((out1_eq m c).trans (dists_eq _ _)),
      (h c).2.2.1.trans ((out2_eq m c).trans (reg_eq _ _ _)),
      (h c).2.2.2⟩) (run m ρ)

end Cert.ReferenceIdeal.Proto
end
-- ==== Proof.lean ====
/- The five claims about the fused prototype kernel and its reference: each program runs and leaves its
   arguments and counters, and over the extended reals the two end with the same three results. The values
   are named in Proof/Proto/Spec.lean; Proof/Proto/KernelRun.lean and Proof/Proto/RefRun.lean read each
   program's run in those terms, and here the two meet. -/
module

public import proofs.«01_k».proof.Proof.Gen.ReferenceIdeal.Run
public import proofs.«01_k».proof.Proof.Proto.KernelRun
public import proofs.«01_k».proof.Proof.Proto.RefRun
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The kernel, read at the machine's own floats, runs, leaves its arguments and returns every counter to zero. -/
theorem frame_kernel [Cert.Kernel.Facts] : Cert.quiescent_Kernel :=
  fun m ρ _ => Cert.Kernel.Gen.frame m ρ

/-- The kernel, read at the extended reals, runs, leaves its arguments and returns every counter to zero. -/
theorem frame_ideal [Cert.KernelIdeal.Facts] : Cert.quiescent_KernelIdeal :=
  fun m ρ _ => Cert.KernelIdeal.Gen.frame m ρ

/-- The reference runs and leaves its arguments; it has no semaphore. -/
theorem frame_reference [Cert.ReferenceIdeal.Facts] : Cert.quiescent_ReferenceIdeal := by
  intro m ρ _
  exact (θ_run Cert.ReferenceIdeal.defs _ _).mono
    (fun r h => ⟨fun c => (h c).2.2.2, sem_eq_zero_of_no_sems (by decide) r.2⟩)
    (Cert.ReferenceIdeal.Proto.run_at m ρ)

/-- From equal arguments the kernel and the reference end with the same three results: the prototypes are the
    weighted means (`Proto.mean`), the distances the squared distances (`Proto.dist`), and the last result the
    regulariser of the prototypes' variance (`Proto.regulariser`, `Proto.variance`). -/
theorem values [Cert.KernelIdeal.Facts] [Cert.ReferenceIdeal.Facts] : Cert.algebraic_KernelIdeal_ReferenceIdeal := by
  intro m g m' g' _ hargs
  refine ⟨_, _, _, Cert.KernelIdeal.Proto.run m g, ?_⟩
  refine (θ_run Cert.ReferenceIdeal.defs _ _).mono (fun r h c => ?_) (Cert.ReferenceIdeal.Proto.run_at m' g')
  obtain ⟨a0, a1, a2⟩ := hargs c
  obtain ⟨h0, h1, h2, h3⟩ := h c
  rw [a0, a1] at h0 h1 h2
  rw [a2] at h2
  exact ⟨h0, h1, h2, h3⟩

/-- All five claims. -/
theorem claim : Cert.Claim :=
  ⟨Cert.Kernel.Gen.facts, Cert.KernelIdeal.Gen.facts, Cert.ReferenceIdeal.Gen.facts,
    frame_kernel, frame_ideal, frame_reference, trivial, values⟩

end Cert.Proof

end
